-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x4096 : Shape := ⟨2, ![16384, 4096]⟩
abbrev S16384x32 : Shape := ⟨2, ![16384, 32]⟩
abbrev S14336x4096 : Shape := ⟨2, ![14336, 4096]⟩
abbrev S112x32 : Shape := ⟨2, ![112, 32]⟩
abbrev S16384x14336 : Shape := ⟨2, ![16384, 14336]⟩
abbrev S512x4096 : Shape := ⟨2, ![512, 4096]⟩
abbrev S512x32 : Shape := ⟨2, ![512, 32]⟩
abbrev S1024x4096 : Shape := ⟨2, ![1024, 4096]⟩
abbrev S512x1024 : Shape := ⟨2, ![512, 1024]⟩
abbrev S512x128 : Shape := ⟨2, ![512, 128]⟩
abbrev S512x1 : Shape := ⟨2, ![512, 1]⟩
abbrev S1x1 : Shape := ⟨2, ![1, 1]⟩
abbrev S128x128 : Shape := ⟨2, ![128, 128]⟩

abbrev nBuf : Space → Nat
  | .hbm => 5
  | .vmem => 10
  | .smem => 1
  | _ => 0

abbrev bufTy : (tb : Table) → Fin (tcTables nBuf tb) → BufTy
  | .hbm, ⟨0, _⟩ => ⟨S16384x4096, .fp8e5m2⟩
  | .hbm, ⟨1, _⟩ => ⟨S16384x32, .f32⟩
  | .hbm, ⟨2, _⟩ => ⟨S14336x4096, .fp8e4m3⟩
  | .hbm, ⟨3, _⟩ => ⟨S112x32, .f32⟩
  | .hbm, ⟨4, _⟩ => ⟨S16384x14336, .bf16⟩
  | .local _ .vmem, ⟨0, _⟩ => ⟨S512x4096, .fp8e5m2⟩
  | .local _ .vmem, ⟨1, _⟩ => ⟨S512x4096, .fp8e5m2⟩
  | .local _ .vmem, ⟨2, _⟩ => ⟨S512x32, .f32⟩
  | .local _ .vmem, ⟨3, _⟩ => ⟨S512x32, .f32⟩
  | .local _ .vmem, ⟨4, _⟩ => ⟨S1024x4096, .fp8e4m3⟩
  | .local _ .vmem, ⟨5, _⟩ => ⟨S1024x4096, .fp8e4m3⟩
  | .local _ .vmem, ⟨6, _⟩ => ⟨S512x1024, .bf16⟩
  | .local _ .vmem, ⟨7, _⟩ => ⟨S512x1024, .bf16⟩
  | .local _ .vmem, ⟨8, _⟩ => ⟨S512x4096, .bf16⟩
  | .local _ .vmem, ⟨9, _⟩ => ⟨S1024x4096, .bf16⟩
  | .local _ .smem, ⟨0, _⟩ => ⟨S112x32, .f32⟩
  | _, _ => ⟨S16384x4096, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 14], ![false, false]⟩

def k0_off1 (i : grid0.Coords) (c0_i32_1 : BitVec 32) : Fin 2 → Nat :=
  let arg1 : BitVec 32 := BitVec.ofNat 32 (i 1).val
  let c8_i32 : BitVec 32 := 8#32
  let v3 : BitVec 32 := Scalar.muli arg1 c8_i32
  let v4 : BitVec 32 := Scalar.addi v3 c0_i32_1
  let v5 : Index := Scalar.indexCast v4
  let c0 : Index := 0#32
  ![v5.toNat, 0]
def k0_off2 (i : grid0.Coords) (c0_i32_7 : BitVec 32) : Fin 2 → Nat :=
  let arg1 : BitVec 32 := BitVec.ofNat 32 (i 1).val
  let c8_i32_6 : BitVec 32 := 8#32
  let v15 : BitVec 32 := Scalar.muli arg1 c8_i32_6
  let v16 : BitVec 32 := Scalar.addi v15 c0_i32_7
  let v17 : Index := Scalar.indexCast v16
  let c1 : Index := 1#32
  ![v17.toNat, 1]
def k0_off3 (i : grid0.Coords) (c0_i32_12 : BitVec 32) : Fin 2 → Nat :=
  let arg1 : BitVec 32 := BitVec.ofNat 32 (i 1).val
  let c8_i32_11 : BitVec 32 := 8#32
  let v27 : BitVec 32 := Scalar.muli arg1 c8_i32_11
  let v28 : BitVec 32 := Scalar.addi v27 c0_i32_12
  let v29 : Index := Scalar.indexCast v28
  let c2 : Index := 2#32
  ![v29.toNat, 2]
def k0_off4 (i : grid0.Coords) (c0_i32_17 : BitVec 32) : Fin 2 → Nat :=
  let arg1 : BitVec 32 := BitVec.ofNat 32 (i 1).val
  let c8_i32_16 : BitVec 32 := 8#32
  let v39 : BitVec 32 := Scalar.muli arg1 c8_i32_16
  let v40 : BitVec 32 := Scalar.addi v39 c0_i32_17
  let v41 : Index := Scalar.indexCast v40
  let c3 : Index := 3#32
  ![v41.toNat, 3]
def k0_off5 (i : grid0.Coords) (c0_i32_22 : BitVec 32) : Fin 2 → Nat :=
  let arg1 : BitVec 32 := BitVec.ofNat 32 (i 1).val
  let c8_i32_21 : BitVec 32 := 8#32
  let v51 : BitVec 32 := Scalar.muli arg1 c8_i32_21
  let v52 : BitVec 32 := Scalar.addi v51 c0_i32_22
  let v53 : Index := Scalar.indexCast v52
  let c4 : Index := 4#32
  ![v53.toNat, 4]
def k0_off6 (i : grid0.Coords) (c0_i32_27 : BitVec 32) : Fin 2 → Nat :=
  let arg1 : BitVec 32 := BitVec.ofNat 32 (i 1).val
  let c8_i32_26 : BitVec 32 := 8#32
  let v63 : BitVec 32 := Scalar.muli arg1 c8_i32_26
  let v64 : BitVec 32 := Scalar.addi v63 c0_i32_27
  let v65 : Index := Scalar.indexCast v64
  let c5 : Index := 5#32
  ![v65.toNat, 5]
def k0_off7 (i : grid0.Coords) (c0_i32_32 : BitVec 32) : Fin 2 → Nat :=
  let arg1 : BitVec 32 := BitVec.ofNat 32 (i 1).val
  let c8_i32_31 : BitVec 32 := 8#32
  let v75 : BitVec 32 := Scalar.muli arg1 c8_i32_31
  let v76 : BitVec 32 := Scalar.addi v75 c0_i32_32
  let v77 : Index := Scalar.indexCast v76
  let c6 : Index := 6#32
  ![v77.toNat, 6]
def k0_off8 (i : grid0.Coords) (c0_i32_37 : BitVec 32) : Fin 2 → Nat :=
  let arg1 : BitVec 32 := BitVec.ofNat 32 (i 1).val
  let c8_i32_36 : BitVec 32 := 8#32
  let v87 : BitVec 32 := Scalar.muli arg1 c8_i32_36
  let v88 : BitVec 32 := Scalar.addi v87 c0_i32_37
  let v89 : Index := Scalar.indexCast v88
  let c7 : Index := 7#32
  ![v89.toNat, 7]
def k0_off9 (i : grid0.Coords) (c0_i32_42 : BitVec 32) : Fin 2 → Nat :=
  let arg1 : BitVec 32 := BitVec.ofNat 32 (i 1).val
  let c8_i32_41 : BitVec 32 := 8#32
  let v99 : BitVec 32 := Scalar.muli arg1 c8_i32_41
  let v100 : BitVec 32 := Scalar.addi v99 c0_i32_42
  let v101 : Index := Scalar.indexCast v100
  let c8 : Index := 8#32
  ![v101.toNat, 8]
def k0_off10 (i : grid0.Coords) (c0_i32_47 : BitVec 32) : Fin 2 → Nat :=
  let arg1 : BitVec 32 := BitVec.ofNat 32 (i 1).val
  let c8_i32_46 : BitVec 32 := 8#32
  let v111 : BitVec 32 := Scalar.muli arg1 c8_i32_46
  let v112 : BitVec 32 := Scalar.addi v111 c0_i32_47
  let v113 : Index := Scalar.indexCast v112
  let c9 : Index := 9#32
  ![v113.toNat, 9]
def k0_off11 (i : grid0.Coords) (c0_i32_52 : BitVec 32) : Fin 2 → Nat :=
  let arg1 : BitVec 32 := BitVec.ofNat 32 (i 1).val
  let c8_i32_51 : BitVec 32 := 8#32
  let v123 : BitVec 32 := Scalar.muli arg1 c8_i32_51
  let v124 : BitVec 32 := Scalar.addi v123 c0_i32_52
  let v125 : Index := Scalar.indexCast v124
  let c10 : Index := 10#32
  ![v125.toNat, 10]
def k0_off12 (i : grid0.Coords) (c0_i32_57 : BitVec 32) : Fin 2 → Nat :=
  let arg1 : BitVec 32 := BitVec.ofNat 32 (i 1).val
  let c8_i32_56 : BitVec 32 := 8#32
  let v135 : BitVec 32 := Scalar.muli arg1 c8_i32_56
  let v136 : BitVec 32 := Scalar.addi v135 c0_i32_57
  let v137 : Index := Scalar.indexCast v136
  let c11 : Index := 11#32
  ![v137.toNat, 11]
def k0_off13 (i : grid0.Coords) (c0_i32_62 : BitVec 32) : Fin 2 → Nat :=
  let arg1 : BitVec 32 := BitVec.ofNat 32 (i 1).val
  let c8_i32_61 : BitVec 32 := 8#32
  let v147 : BitVec 32 := Scalar.muli arg1 c8_i32_61
  let v148 : BitVec 32 := Scalar.addi v147 c0_i32_62
  let v149 : Index := Scalar.indexCast v148
  let c12 : Index := 12#32
  ![v149.toNat, 12]
def k0_off14 (i : grid0.Coords) (c0_i32_67 : BitVec 32) : Fin 2 → Nat :=
  let arg1 : BitVec 32 := BitVec.ofNat 32 (i 1).val
  let c8_i32_66 : BitVec 32 := 8#32
  let v159 : BitVec 32 := Scalar.muli arg1 c8_i32_66
  let v160 : BitVec 32 := Scalar.addi v159 c0_i32_67
  let v161 : Index := Scalar.indexCast v160
  let c13 : Index := 13#32
  ![v161.toNat, 13]
def k0_off15 (i : grid0.Coords) (c0_i32_72 : BitVec 32) : Fin 2 → Nat :=
  let arg1 : BitVec 32 := BitVec.ofNat 32 (i 1).val
  let c8_i32_71 : BitVec 32 := 8#32
  let v171 : BitVec 32 := Scalar.muli arg1 c8_i32_71
  let v172 : BitVec 32 := Scalar.addi v171 c0_i32_72
  let v173 : Index := Scalar.indexCast v172
  let c14 : Index := 14#32
  ![v173.toNat, 14]
def k0_off16 (i : grid0.Coords) (c0_i32_77 : BitVec 32) : Fin 2 → Nat :=
  let arg1 : BitVec 32 := BitVec.ofNat 32 (i 1).val
  let c8_i32_76 : BitVec 32 := 8#32
  let v183 : BitVec 32 := Scalar.muli arg1 c8_i32_76
  let v184 : BitVec 32 := Scalar.addi v183 c0_i32_77
  let v185 : Index := Scalar.indexCast v184
  let c15 : Index := 15#32
  ![v185.toNat, 15]
def k0_off17 (i : grid0.Coords) (c0_i32_82 : BitVec 32) : Fin 2 → Nat :=
  let arg1 : BitVec 32 := BitVec.ofNat 32 (i 1).val
  let c8_i32_81 : BitVec 32 := 8#32
  let v195 : BitVec 32 := Scalar.muli arg1 c8_i32_81
  let v196 : BitVec 32 := Scalar.addi v195 c0_i32_82
  let v197 : Index := Scalar.indexCast v196
  let c16 : Index := 16#32
  ![v197.toNat, 16]
def k0_off18 (i : grid0.Coords) (c0_i32_87 : BitVec 32) : Fin 2 → Nat :=
  let arg1 : BitVec 32 := BitVec.ofNat 32 (i 1).val
  let c8_i32_86 : BitVec 32 := 8#32
  let v207 : BitVec 32 := Scalar.muli arg1 c8_i32_86
  let v208 : BitVec 32 := Scalar.addi v207 c0_i32_87
  let v209 : Index := Scalar.indexCast v208
  let c17 : Index := 17#32
  ![v209.toNat, 17]
def k0_off19 (i : grid0.Coords) (c0_i32_92 : BitVec 32) : Fin 2 → Nat :=
  let arg1 : BitVec 32 := BitVec.ofNat 32 (i 1).val
  let c8_i32_91 : BitVec 32 := 8#32
  let v219 : BitVec 32 := Scalar.muli arg1 c8_i32_91
  let v220 : BitVec 32 := Scalar.addi v219 c0_i32_92
  let v221 : Index := Scalar.indexCast v220
  let c18 : Index := 18#32
  ![v221.toNat, 18]
def k0_off20 (i : grid0.Coords) (c0_i32_97 : BitVec 32) : Fin 2 → Nat :=
  let arg1 : BitVec 32 := BitVec.ofNat 32 (i 1).val
  let c8_i32_96 : BitVec 32 := 8#32
  let v231 : BitVec 32 := Scalar.muli arg1 c8_i32_96
  let v232 : BitVec 32 := Scalar.addi v231 c0_i32_97
  let v233 : Index := Scalar.indexCast v232
  let c19 : Index := 19#32
  ![v233.toNat, 19]
def k0_off21 (i : grid0.Coords) (c0_i32_102 : BitVec 32) : Fin 2 → Nat :=
  let arg1 : BitVec 32 := BitVec.ofNat 32 (i 1).val
  let c8_i32_101 : BitVec 32 := 8#32
  let v243 : BitVec 32 := Scalar.muli arg1 c8_i32_101
  let v244 : BitVec 32 := Scalar.addi v243 c0_i32_102
  let v245 : Index := Scalar.indexCast v244
  let c20 : Index := 20#32
  ![v245.toNat, 20]
def k0_off22 (i : grid0.Coords) (c0_i32_107 : BitVec 32) : Fin 2 → Nat :=
  let arg1 : BitVec 32 := BitVec.ofNat 32 (i 1).val
  let c8_i32_106 : BitVec 32 := 8#32
  let v255 : BitVec 32 := Scalar.muli arg1 c8_i32_106
  let v256 : BitVec 32 := Scalar.addi v255 c0_i32_107
  let v257 : Index := Scalar.indexCast v256
  let c21 : Index := 21#32
  ![v257.toNat, 21]
def k0_off23 (i : grid0.Coords) (c0_i32_112 : BitVec 32) : Fin 2 → Nat :=
  let arg1 : BitVec 32 := BitVec.ofNat 32 (i 1).val
  let c8_i32_111 : BitVec 32 := 8#32
  let v267 : BitVec 32 := Scalar.muli arg1 c8_i32_111
  let v268 : BitVec 32 := Scalar.addi v267 c0_i32_112
  let v269 : Index := Scalar.indexCast v268
  let c22 : Index := 22#32
  ![v269.toNat, 22]
def k0_off24 (i : grid0.Coords) (c0_i32_117 : BitVec 32) : Fin 2 → Nat :=
  let arg1 : BitVec 32 := BitVec.ofNat 32 (i 1).val
  let c8_i32_116 : BitVec 32 := 8#32
  let v279 : BitVec 32 := Scalar.muli arg1 c8_i32_116
  let v280 : BitVec 32 := Scalar.addi v279 c0_i32_117
  let v281 : Index := Scalar.indexCast v280
  let c23 : Index := 23#32
  ![v281.toNat, 23]
def k0_off25 (i : grid0.Coords) (c0_i32_122 : BitVec 32) : Fin 2 → Nat :=
  let arg1 : BitVec 32 := BitVec.ofNat 32 (i 1).val
  let c8_i32_121 : BitVec 32 := 8#32
  let v291 : BitVec 32 := Scalar.muli arg1 c8_i32_121
  let v292 : BitVec 32 := Scalar.addi v291 c0_i32_122
  let v293 : Index := Scalar.indexCast v292
  let c24 : Index := 24#32
  ![v293.toNat, 24]
def k0_off26 (i : grid0.Coords) (c0_i32_127 : BitVec 32) : Fin 2 → Nat :=
  let arg1 : BitVec 32 := BitVec.ofNat 32 (i 1).val
  let c8_i32_126 : BitVec 32 := 8#32
  let v303 : BitVec 32 := Scalar.muli arg1 c8_i32_126
  let v304 : BitVec 32 := Scalar.addi v303 c0_i32_127
  let v305 : Index := Scalar.indexCast v304
  let c25 : Index := 25#32
  ![v305.toNat, 25]
def k0_off27 (i : grid0.Coords) (c0_i32_132 : BitVec 32) : Fin 2 → Nat :=
  let arg1 : BitVec 32 := BitVec.ofNat 32 (i 1).val
  let c8_i32_131 : BitVec 32 := 8#32
  let v315 : BitVec 32 := Scalar.muli arg1 c8_i32_131
  let v316 : BitVec 32 := Scalar.addi v315 c0_i32_132
  let v317 : Index := Scalar.indexCast v316
  let c26 : Index := 26#32
  ![v317.toNat, 26]
def k0_off28 (i : grid0.Coords) (c0_i32_137 : BitVec 32) : Fin 2 → Nat :=
  let arg1 : BitVec 32 := BitVec.ofNat 32 (i 1).val
  let c8_i32_136 : BitVec 32 := 8#32
  let v327 : BitVec 32 := Scalar.muli arg1 c8_i32_136
  let v328 : BitVec 32 := Scalar.addi v327 c0_i32_137
  let v329 : Index := Scalar.indexCast v328
  let c27 : Index := 27#32
  ![v329.toNat, 27]
def k0_off29 (i : grid0.Coords) (c0_i32_142 : BitVec 32) : Fin 2 → Nat :=
  let arg1 : BitVec 32 := BitVec.ofNat 32 (i 1).val
  let c8_i32_141 : BitVec 32 := 8#32
  let v339 : BitVec 32 := Scalar.muli arg1 c8_i32_141
  let v340 : BitVec 32 := Scalar.addi v339 c0_i32_142
  let v341 : Index := Scalar.indexCast v340
  let c28 : Index := 28#32
  ![v341.toNat, 28]
def k0_off30 (i : grid0.Coords) (c0_i32_147 : BitVec 32) : Fin 2 → Nat :=
  let arg1 : BitVec 32 := BitVec.ofNat 32 (i 1).val
  let c8_i32_146 : BitVec 32 := 8#32
  let v351 : BitVec 32 := Scalar.muli arg1 c8_i32_146
  let v352 : BitVec 32 := Scalar.addi v351 c0_i32_147
  let v353 : Index := Scalar.indexCast v352
  let c29 : Index := 29#32
  ![v353.toNat, 29]
def k0_off31 (i : grid0.Coords) (c0_i32_152 : BitVec 32) : Fin 2 → Nat :=
  let arg1 : BitVec 32 := BitVec.ofNat 32 (i 1).val
  let c8_i32_151 : BitVec 32 := 8#32
  let v363 : BitVec 32 := Scalar.muli arg1 c8_i32_151
  let v364 : BitVec 32 := Scalar.addi v363 c0_i32_152
  let v365 : Index := Scalar.indexCast v364
  let c30 : Index := 30#32
  ![v365.toNat, 30]
def k0_off32 (i : grid0.Coords) (c0_i32_157 : BitVec 32) : Fin 2 → Nat :=
  let arg1 : BitVec 32 := BitVec.ofNat 32 (i 1).val
  let c8_i32_156 : BitVec 32 := 8#32
  let v375 : BitVec 32 := Scalar.muli arg1 c8_i32_156
  let v376 : BitVec 32 := Scalar.addi v375 c0_i32_157
  let v377 : Index := Scalar.indexCast v376
  let c31 : Index := 31#32
  ![v377.toNat, 31]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S112x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x4096 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x4096 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S16384x4096 : Shape := ⟨2, ![16384, 4096]⟩
abbrev S16384x32 : Shape := ⟨2, ![16384, 32]⟩
abbrev S14336x4096 : Shape := ⟨2, ![14336, 4096]⟩
abbrev S112x32 : Shape := ⟨2, ![112, 32]⟩
abbrev S16384x14336 : Shape := ⟨2, ![16384, 14336]⟩
abbrev S16384x32x128 : Shape := ⟨3, ![16384, 32, 128]⟩
abbrev S16384x32x1 : Shape := ⟨3, ![16384, 32, 1]⟩
abbrev S112x128x32x128 : Shape := ⟨4, ![112, 128, 32, 128]⟩
abbrev S112x1x32x1 : Shape := ⟨4, ![112, 1, 32, 1]⟩

abbrev nBuf : Space → Nat
  | .hbm => 5
  | .vmem => 5
  | .smem => 0
  | _ => 0

abbrev bufTy : (tb : Table) → Fin (tcTables nBuf tb) → BufTy
  | .hbm, ⟨0, _⟩ => ⟨S16384x4096, .fp8e5m2⟩
  | .hbm, ⟨1, _⟩ => ⟨S16384x32, .f32⟩
  | .hbm, ⟨2, _⟩ => ⟨S14336x4096, .fp8e4m3⟩
  | .hbm, ⟨3, _⟩ => ⟨S112x32, .f32⟩
  | .hbm, ⟨4, _⟩ => ⟨S16384x14336, .bf16⟩
  | .local _ .vmem, ⟨0, _⟩ => ⟨S16384x4096, .fp8e5m2⟩
  | .local _ .vmem, ⟨1, _⟩ => ⟨S16384x32, .f32⟩
  | .local _ .vmem, ⟨2, _⟩ => ⟨S14336x4096, .fp8e4m3⟩
  | .local _ .vmem, ⟨3, _⟩ => ⟨S112x32, .f32⟩
  | .local _ .vmem, ⟨4, _⟩ => ⟨S16384x14336, .bf16⟩
  | _, _ => ⟨S16384x4096, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S16384x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S14336x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S112x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x14336 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Pieces.lean ====
/- What one grid point stores, as lists written once. The body dequantises the weight block in 256 tiles of 128 × 128 and,
   at the first column of a row of blocks, the code block in 32 strips of 128 columns; then it contracts the two scratch
   buffers and stores the whole output block. Tile `n` is row `n / 32`, column `n % 32` of the tiling. -/
module

public import proofs.«01_k».proof.Proof.Gen.KernelIdeal.Frame

@[expose] public section

set_option maxRecDepth 65536

noncomputable section

namespace Cert.KernelIdeal.Math

open Cert.KernelIdeal Cert.KernelIdeal.Gen Idealize.ShloMosaic Idealize.ShloMosaic.TcCoe Idealize.SL.Sem

variable {F : FTy → Type} [FloatOps F]

/-- The row of the scale table that tile row `r` of the weight block at grid column `i 1` uses, as the body computes it. -/
def scaleRow (i : grid0.Coords) (r : ℕ) : BitVec 32 :=
  Scalar.addi (Scalar.muli (BitVec.ofNat 32 (i 1).val) 8#32) (BitVec.ofNat 32 r)

/-- That row is `8 · (i 1) + r`: nothing wraps. -/
theorem scaleRow_toNat (i : grid0.Coords) (r : ℕ) (hr : r < 8) : (scaleRow i r).toNat = 8 * (i 1).val + r := by
  have h1 : (i 1).val < 14 := (i 1).isLt
  unfold scaleRow
  show (BitVec.ofNat 32 (i 1).val * 8#32 + BitVec.ofNat 32 r).toNat = _
  rw [BitVec.toNat_add, BitVec.toNat_mul, BitVec.toNat_ofNat, BitVec.toNat_ofNat, BitVec.toNat_ofNat]
  omega

/-- Tile `n` lies in the weight block. -/
theorem tile_inb (n : ℕ) (hn : n < 256) (a : Fin 2) :
    (![128 * (n / 32), 128 * (n % 32)] : Fin 2 → ℕ) a + S128x128.size a ≤ S1024x4096.size a := by
  match a with
  | ⟨0, _⟩ => show 128 * (n / 32) + 128 ≤ 1024; omega
  | ⟨1, _⟩ => show 128 * (n % 32) + 128 ≤ 4096; omega

/-- Tile `n`'s scale lies in the scale table. -/
theorem scale_inb (i : grid0.Coords) (n : ℕ) (hn : n < 256) (a : Fin 2) :
    (![(scaleRow i (n / 32)).toNat, n % 32] : Fin 2 → ℕ) a + S1x1.size a ≤ S112x32.size a := by
  have h1 : (i 1).val < 14 := (i 1).isLt
  have h2 := scaleRow_toNat i (n / 32) (by omega)
  match a with
  | ⟨0, _⟩ => show (scaleRow i (n / 32)).toNat + 1 ≤ 112; omega
  | ⟨1, _⟩ => show n % 32 + 1 ≤ 32; omega

/-- Strip `k` lies in the code block. -/
theorem strip_inb (k : ℕ) (hk : k < 32) (a : Fin 2) :
    (![0, 128 * k] : Fin 2 → ℕ) a + S512x128.size a ≤ S512x4096.size a := by
  match a with
  | ⟨0, _⟩ => show 0 + 512 ≤ 512; omega
  | ⟨1, _⟩ => show 128 * k + 128 ≤ 4096; omega

/-- Column `k` lies in the block of code scales. -/
theorem col_inb (k : ℕ) (hk : k < 32) (a : Fin 2) :
    (![0, k] : Fin 2 → ℕ) a + S512x1.size a ≤ S512x32.size a := by
  match a with
  | ⟨0, _⟩ => show 0 + 512 ≤ 512; omega
  | ⟨1, _⟩ => show k + 1 ≤ 32; omega

/-- The store of weight tile `n`: the codes loaded from the tile, times the tile's scale. -/
def tilePiece (i : grid0.Coords) (M2 : Memref sig .tc .smem S112x32 .f32) (h2 : M2.IsWhole)
    (M5 : Memref sig .tc .vmem S1024x4096 .fp8e4m3) (h5 : M5.IsWhole) (x0 : Vec F S112x32 .f32)
    (x3 : Vec F S1024x4096 .fp8e4m3) (n : ℕ) (hn : n < 256) : View.Piece (Elt F) S1024x4096 .bf16 :=
  ⟨Rect.unit (s := S1024x4096) ![128 * (n / 32), 128 * (n % 32)] S128x128.size (tile_inb n hn),
    k0_pay42
      (View.readAt (Elt F) M2.view
        (Rect.unit (s := S112x32) ![(scaleRow i (n / 32)).toNat, n % 32] S1x1.size (scale_inb i n hn)).toLoadRect
        (h2.unread x0) (Shape.Idx.first Nat.one_pos))
      (View.readAt (Elt F) M5.view
        (Rect.unit (s := S1024x4096) ![128 * (n / 32), 128 * (n % 32)] S128x128.size (tile_inb n hn)).toLoadRect
        (h5.unread x3))⟩

/-- The stores of the first `n` weight tiles, the last store first. -/
def tilePieces (i : grid0.Coords) (M2 : Memref sig .tc .smem S112x32 .f32) (h2 : M2.IsWhole)
    (M5 : Memref sig .tc .vmem S1024x4096 .fp8e4m3) (h5 : M5.IsWhole) (x0 : Vec F S112x32 .f32)
    (x3 : Vec F S1024x4096 .fp8e4m3) : (n : ℕ) → n ≤ 256 → List (View.Piece (Elt F) S1024x4096 .bf16)
  | 0, _ => []
  | n + 1, hn => tilePiece i M2 h2 M5 h5 x0 x3 n hn :: tilePieces i M2 h2 M5 h5 x0 x3 n (Nat.le_of_succ_le hn)

/-- The store of strip `k` of the codes: 128 columns of codes, each row times its scale for those columns. -/
def stripPiece (M3 : Memref sig .tc .vmem S512x4096 .fp8e5m2) (h3 : M3.IsWhole)
    (M4 : Memref sig .tc .vmem S512x32 .f32) (h4 : M4.IsWhole) (x1 : Vec F S512x4096 .fp8e5m2) (x2 : Vec F S512x32 .f32)
    (k : ℕ) (hk : k < 32) : View.Piece (Elt F) S512x4096 .bf16 :=
  ⟨Rect.unit (s := S512x4096) ![0, 128 * k] S512x128.size (strip_inb k hk),
    k0_pay2
      (View.readAt (Elt F) M3.view (Rect.unit (s := S512x4096) ![0, 128 * k] S512x128.size (strip_inb k hk)).toLoadRect
        (h3.unread x1))
      (View.readAt (Elt F) M4.view (Rect.unit (s := S512x32) ![0, k] S512x1.size (col_inb k hk)).toLoadRect (h4.unread x2))⟩

/-- The stores of the first `k` strips, the last store first. -/
def stripPieces (M3 : Memref sig .tc .vmem S512x4096 .fp8e5m2) (h3 : M3.IsWhole)
    (M4 : Memref sig .tc .vmem S512x32 .f32) (h4 : M4.IsWhole) (x1 : Vec F S512x4096 .fp8e5m2) (x2 : Vec F S512x32 .f32) :
    (k : ℕ) → k ≤ 32 → List (View.Piece (Elt F) S512x4096 .bf16)
  | 0, _ => []
  | k + 1, hk => stripPiece M3 h3 M4 h4 x1 x2 k hk :: stripPieces M3 h3 M4 h4 x1 x2 k (Nat.le_of_succ_le hk)

section Runs

variable (c : Dev nD) (i : grid0.Coords) (arg2 : Memref sig .tc .smem S112x32 .f32) (harg2 : arg2.IsWhole)
  (arg3 : Memref sig .tc .vmem S512x4096 .fp8e5m2) (harg3 : arg3.IsWhole) (arg4 : Memref sig .tc .vmem S512x32 .f32)
  (harg4 : arg4.IsWhole) (arg5 : Memref sig .tc .vmem S1024x4096 .fp8e4m3) (harg5 : arg5.IsWhole)
  (arg6 : Memref sig .tc .vmem S512x1024 .bf16) (harg6 : arg6.IsWhole) (arg7 : Memref sig .tc .vmem S512x4096 .bf16)
  (harg7 : arg7.IsWhole) (arg8 : Memref sig .tc .vmem S1024x4096 .bf16) (harg8 : arg8.IsWhole)
  (x0 : Vec F S112x32 .f32) (x1 : Vec F S512x4096 .fp8e5m2) (x2 : Vec F S512x32 .f32) (x3 : Vec F S1024x4096 .fp8e4m3)
  (xs0 : Vec F S512x4096 .bf16)

/-- At the first column of a row of blocks the body leaves the 32 strips in the code scratch. -/
theorem runA_scratch (hc0 : cond0_0 i) :
    (kernelRun0_A c i arg2 harg2 arg3 harg3 arg4 harg4 arg5 harg5 arg6 harg6 arg7 harg7 arg8 harg8 hc0 x0 x1 x2 x3).2.1
      = stripPieces arg3 harg3 arg4 harg4 x1 x2 32 le_rfl := by
  rfl

/-- There it stores, as the output block, the contraction of the strips just stored with the tiles just stored. -/
theorem runA_out (hc0 : cond0_0 i) :
    (kernelRun0_A c i arg2 harg2 arg3 harg3 arg4 harg4 arg5 harg5 arg6 harg6 arg7 harg7 arg8 harg8 hc0 x0 x1 x2 x3).1
      = [⟨Rect.unit (s := S512x1024) ![0, 0] S512x1024.size inb_S512x1024_S512x1024_0_0,
          k0_pay1
            (arg7.view.readCov (stripPieces arg3 harg3 arg4 harg4 x1 x2 32 le_rfl)
              (Rect.unit (s := S512x4096) ![0, 0] S512x4096.size inb_S512x4096_S512x4096_0_0).toLoadRect)
            (arg8.view.readCov (tilePieces i arg2 harg2 arg5 harg5 x0 x3 256 le_rfl)
              (Rect.unit (s := S1024x4096) ![0, 0] S1024x4096.size inb_S1024x4096_S1024x4096_0_0).toLoadRect)
            (constant S512x1024 .f32 0x00000000#32)⟩] := by
  rfl

/-- Elsewhere it contracts what the scratch already holds with the tiles just stored. -/
theorem runB_out (hc0 : ¬cond0_0 i) :
    (kernelRun0_B c i arg2 harg2 arg3 harg3 arg4 harg4 arg5 harg5 arg6 harg6 arg7 harg7 arg8 harg8 hc0 x0 x1 x2 x3 xs0).1
      = [⟨Rect.unit (s := S512x1024) ![0, 0] S512x1024.size inb_S512x1024_S512x1024_0_0,
          k0_pay1
            (View.readAt (Elt F) arg7.view
              (Rect.unit (s := S512x4096) ![0, 0] S512x4096.size inb_S512x4096_S512x4096_0_0).toLoadRect (harg7.unread xs0))
            (arg8.view.readCov (tilePieces i arg2 harg2 arg5 harg5 x0 x3 256 le_rfl)
              (Rect.unit (s := S1024x4096) ![0, 0] S1024x4096.size inb_S1024x4096_S1024x4096_0_0).toLoadRect)
            (constant S512x1024 .f32 0x00000000#32)⟩] := by
  rfl

end Runs

end Cert.KernelIdeal.Math

end
-- ==== Proof.Spec.lean ====
/- What the kernel is to compute, as one formula: codes and weight codes are dequantised by their block scales and
   contracted over the 4096 columns. The blocks are 128 wide: a row of codes has one scale per 128 columns, the weight
   matrix has one scale per 128×128 tile. -/
module

public import Idealize.ShloMosaic.Lib.MatmulPlain

@[expose] public section

noncomputable section

namespace Cert.Math

open Idealize.ShloMosaic Idealize.ShloMosaic.ValueIdx
open scoped BigOperators

/-- Column `k`'s block of 128 columns. -/
def colBlk (k : Fin 4096) : Fin 32 := ⟨k.val / 128, by omega⟩

/-- Row `f`'s block of 128 rows of the weight matrix. -/
def rowBlk (f : Fin 14336) : Fin 112 := ⟨f.val / 128, by omega⟩

/-- THE FORMULA: `out[t, f] = Σ_k (codes[t, k] · scales[t, k/128]) · (w[f, k] · wScales[f/128, k/128])`. -/
def spec (codes : FVec Ideal ⟨2, ![16384, 4096]⟩ .fp8e5m2) (scales : FVec Ideal ⟨2, ![16384, 32]⟩ .f32)
    (w : FVec Ideal ⟨2, ![14336, 4096]⟩ .fp8e4m3) (wScales : FVec Ideal ⟨2, ![112, 32]⟩ .f32)
    (t : Fin 16384) (f : Fin 14336) : EReal :=
  ∑ k : Fin 4096, (codes (ix2 t k) * scales (ix2 t (colBlk k))) * (w (ix2 f k) * wScales (ix2 (rowBlk f) (colBlk k)))

end Cert.Math

end
-- ==== Proof.Block.lean ====
/- What one grid point computes, read as numbers. The tiles of Pieces.lean are the tiles of one function of the weight
   block and the scale table, and the strips are the strips of one function of the code block and its scales; so the two
   scratch buffers hold those functions whole, and the output block is their contraction. -/
module

public import proofs.«01_k».proof.Proof.Pieces
public import proofs.«01_k».proof.Proof.Spec
public import Idealize.ShloMosaic.Lib.Pipeline.ReadBack
public import Idealize.ShloMosaic.Lib.Pipeline.ValueKit.Tiles

@[expose] public section

set_option maxRecDepth 16384

noncomputable section

namespace Cert.KernelIdeal.Math

open Cert.KernelIdeal Cert.KernelIdeal.Gen Idealize.ShloMosaic Idealize.ShloMosaic.TcCoe Idealize.SL.Sem
open Idealize.ShloMosaic.ValueIdx Cert.Math
open scoped BigOperators

/-- The row of the scale table used by row `r` of the weight block at grid column `i 1`. -/
def scRow (i : grid0.Coords) (r : Fin 1024) : Fin 112 :=
  ⟨8 * (i 1).val + r.val / 128, by have h1 : (i 1).val < 14 := (i 1).isLt; omega⟩

/-- The weight block dequantised: each weight code times the scale of its 128 × 128 tile. -/
def wqBlock (i : grid0.Coords) (x0 : Vec Ideal S112x32 .f32) (x3 : Vec Ideal S1024x4096 .fp8e4m3) :
    Vec Ideal S1024x4096 .bf16 :=
  fun z => (x3 z * x0 (ix2 (scRow i (z 0)) (colBlk (z 1))) : EReal)

/-- The code block dequantised: each code times its row's scale for the 128 columns it lies in. -/
def dqBlock (x1 : Vec Ideal S512x4096 .fp8e5m2) (x2 : Vec Ideal S512x32 .f32) : Vec Ideal S512x4096 .bf16 :=
  fun z => (x1 z * x2 (ix2 (z 0) (colBlk (z 1))) : EReal)

/-- The zero offsets of a whole load or store. -/
theorem offs_zero : (![0, 0] : Fin 2 → ℕ) = fun _ => 0 := funext fun a => by fin_cases a <;> rfl

section Tiles

variable (i : grid0.Coords) (M2 : Memref sig .tc .smem S112x32 .f32) (h2 : M2.IsWhole)
  (M5 : Memref sig .tc .vmem S1024x4096 .fp8e4m3) (h5 : M5.IsWhole) (x0 : Vec Ideal S112x32 .f32)
  (x3 : Vec Ideal S1024x4096 .fp8e4m3)

/-- The store of tile `n` is tile `n` of the dequantised weight block. -/
theorem tilePiece_eq (n : ℕ) (hn : n < 256) (y : (tilePiece i M2 h2 M5 h5 x0 x3 n hn).1.shape.Idx) :
    (tilePiece i M2 h2 M5 h5 x0 x3 n hn).2 y = wqBlock i x0 x3 ((tilePiece i M2 h2 M5 h5 x0 x3 n hn).1.emb y) := by
  have hy0 : (y 0).val < 128 := (y 0).isLt
  have hy1 : (y 1).val < 128 := (y 1).isLt
  have hr := scaleRow_toNat i (n / 32) (by omega)
  unfold tilePiece k0_pay42
  dsimp only
  rw [shapeCast_self]
  show (_ : EReal) * _ = _
  refine congrArg₂ (fun a b : EReal => a * b) ?_ ?_
  · rw [View.readAt_eq_ld, h5.read_unread]
    rfl
  · show (View.readAt (Elt Ideal) M2.view _ (h2.unread x0) _ : EReal) = _
    rw [View.readAt_eq_ld, h2.read_unread]
    refine View.ld_unit_apply_of x0 _ _ _ _ _ fun a => ?_
    match a with
    | ⟨0, _⟩ =>
      show 8 * (i 1).val + (128 * (n / 32) + 1 * (y 0).val) / 128 = (scaleRow i (n / 32)).toNat + 0
      omega
    | ⟨1, _⟩ =>
      show (128 * (n % 32) + 1 * (y 1).val) / 128 = n % 32 + 0
      omega

/-- Every store of a tile is a tile of the dequantised weight block. -/
theorem tilePieces_of : ∀ (n : ℕ) (hn : n ≤ 256),
    View.PiecesOf (wqBlock i x0 x3) (tilePieces i M2 h2 M5 h5 x0 x3 n hn)
  | 0, _ => trivial
  | n + 1, hn => ⟨tilePiece_eq i M2 h2 M5 h5 x0 x3 n hn, tilePieces_of n (Nat.le_of_succ_le hn)⟩

/-- Tile `k` is among the first `n` stores. -/
theorem tilePiece_mem (k : ℕ) : ∀ (n : ℕ) (hn : n ≤ 256) (hk : k < n),
    tilePiece i M2 h2 M5 h5 x0 x3 k (by omega) ∈ tilePieces i M2 h2 M5 h5 x0 x3 n hn
  | 0, _, hk => absurd hk (Nat.not_lt_zero _)
  | n + 1, hn, hk => by
    rcases Nat.lt_succ_iff_lt_or_eq.mp hk with h | rfl
    · exact List.mem_cons_of_mem _ (tilePiece_mem k n (Nat.le_of_succ_le hn) h)
    · exact List.mem_cons_self

/-- After all 256 stores the weight scratch holds the dequantised weight block. -/
theorem canon_tiles : View.canon (tilePieces i M2 h2 M5 h5 x0 x3 256 le_rfl) = wqBlock i x0 x3 := by
  funext z
  have hz0 : (z 0).val < 1024 := (z 0).isLt
  have hz1 : (z 1).val < 4096 := (z 1).isLt
  refine View.canon_apply_of_pieces _ _ (tilePieces_of i M2 h2 M5 h5 x0 x3 256 le_rfl).mem z
    ⟨_, tilePiece_mem i M2 h2 M5 h5 x0 x3 ((z 0).val / 128 * 32 + (z 1).val / 128) 256 le_rfl (by omega), ?_⟩
  show z ∈ (Rect.unit (s := S1024x4096) _ S128x128.size (tile_inb _ (by omega))).set
  rw [Rect.mem_set_unit]
  intro a
  match a with
  | ⟨0, _⟩ =>
    show 128 * (((z 0).val / 128 * 32 + (z 1).val / 128) / 32) ≤ (z 0).val
      ∧ (z 0).val < 128 * (((z 0).val / 128 * 32 + (z 1).val / 128) / 32) + 128
    omega
  | ⟨1, _⟩ =>
    show 128 * (((z 0).val / 128 * 32 + (z 1).val / 128) % 32) ≤ (z 1).val
      ∧ (z 1).val < 128 * (((z 0).val / 128 * 32 + (z 1).val / 128) % 32) + 128
    omega

/-- Loaded whole, it reads that. -/
theorem readCov_tiles (v : View sig .tc .vmem S1024x4096 .bf16) :
    v.readCov (tilePieces i M2 h2 M5 h5 x0 x3 256 le_rfl)
      (Rect.unit (s := S1024x4096) ![0, 0] S1024x4096.size inb_S1024x4096_S1024x4096_0_0).toLoadRect
      = wqBlock i x0 x3 := by
  rw [View.readCov_eq_canon', canon_tiles]
  exact View.ld_unit_zero (S := S1024x4096) offs_zero _ (wqBlock i x0 x3)

end Tiles

section Strips

variable (M3 : Memref sig .tc .vmem S512x4096 .fp8e5m2) (h3 : M3.IsWhole) (M4 : Memref sig .tc .vmem S512x32 .f32)
  (h4 : M4.IsWhole) (x1 : Vec Ideal S512x4096 .fp8e5m2) (x2 : Vec Ideal S512x32 .f32)

/-- The store of strip `k` is strip `k` of the dequantised code block. -/
theorem stripPiece_eq (k : ℕ) (hk : k < 32) (y : (stripPiece M3 h3 M4 h4 x1 x2 k hk).1.shape.Idx) :
    (stripPiece M3 h3 M4 h4 x1 x2 k hk).2 y = dqBlock x1 x2 ((stripPiece M3 h3 M4 h4 x1 x2 k hk).1.emb y) := by
  have hy0 : (y 0).val < 512 := (y 0).isLt
  have hy1 : (y 1).val < 128 := (y 1).isLt
  unfold stripPiece k0_pay2
  dsimp only
  rw [shapeCast_self]
  refine congrArg₂ (fun a b : EReal => a * b) ?_ ?_
  · rw [View.readAt_eq_ld, h3.read_unread]
    rfl
  · refine (broadcastTo_apply (s := S512x1) (t := S512x128) _ _ y (ix2 (⟨(y 0).val, hy0⟩ : Fin 512) (0 : Fin 1))
      (fun a => by fin_cases a <;> rfl)).trans ?_
    show (View.readAt (Elt Ideal) M4.view _ (h4.unread x2) _ : EReal) = _
    rw [View.readAt_eq_ld, h4.read_unread]
    refine View.ld_unit_apply_of x2 _ _ _ _ _ fun a => ?_
    match a with
    | ⟨0, _⟩ =>
      show 0 + 1 * (y 0).val = 0 + (y 0).val
      omega
    | ⟨1, _⟩ =>
      show (128 * k + 1 * (y 1).val) / 128 = k + 0
      omega

/-- Every store of a strip is a strip of the dequantised code block. -/
theorem stripPieces_of : ∀ (n : ℕ) (hn : n ≤ 32),
    View.PiecesOf (dqBlock x1 x2) (stripPieces M3 h3 M4 h4 x1 x2 n hn)
  | 0, _ => trivial
  | n + 1, hn => ⟨stripPiece_eq M3 h3 M4 h4 x1 x2 n hn, stripPieces_of n (Nat.le_of_succ_le hn)⟩

/-- Strip `k` is among the first `n` stores. -/
theorem stripPiece_mem (k : ℕ) : ∀ (n : ℕ) (hn : n ≤ 32) (hk : k < n),
    stripPiece M3 h3 M4 h4 x1 x2 k (by omega) ∈ stripPieces M3 h3 M4 h4 x1 x2 n hn
  | 0, _, hk => absurd hk (Nat.not_lt_zero _)
  | n + 1, hn, hk => by
    rcases Nat.lt_succ_iff_lt_or_eq.mp hk with h | rfl
    · exact List.mem_cons_of_mem _ (stripPiece_mem k n (Nat.le_of_succ_le hn) h)
    · exact List.mem_cons_self

/-- After all 32 stores the code scratch holds the dequantised code block. -/
theorem canon_strips : View.canon (stripPieces M3 h3 M4 h4 x1 x2 32 le_rfl) = dqBlock x1 x2 := by
  funext z
  have hz0 : (z 0).val < 512 := (z 0).isLt
  have hz1 : (z 1).val < 4096 := (z 1).isLt
  refine View.canon_apply_of_pieces _ _ (stripPieces_of M3 h3 M4 h4 x1 x2 32 le_rfl).mem z
    ⟨_, stripPiece_mem M3 h3 M4 h4 x1 x2 ((z 1).val / 128) 32 le_rfl (by omega), ?_⟩
  show z ∈ (Rect.unit (s := S512x4096) _ S512x128.size (strip_inb _ (by omega))).set
  rw [Rect.mem_set_unit]
  intro a
  match a with
  | ⟨0, _⟩ =>
    show 0 ≤ (z 0).val ∧ (z 0).val < 0 + 512
    omega
  | ⟨1, _⟩ =>
    show 128 * ((z 1).val / 128) ≤ (z 1).val ∧ (z 1).val < 128 * ((z 1).val / 128) + 128
    omega

/-- Loaded whole, it reads that. -/
theorem readCov_strips (v : View sig .tc .vmem S512x4096 .bf16) :
    v.readCov (stripPieces M3 h3 M4 h4 x1 x2 32 le_rfl)
      (Rect.unit (s := S512x4096) ![0, 0] S512x4096.size inb_S512x4096_S512x4096_0_0).toLoadRect
      = dqBlock x1 x2 := by
  rw [View.readCov_eq_canon', canon_strips]
  exact View.ld_unit_zero (S := S512x4096) offs_zero _ (dqBlock x1 x2)

end Strips

/-- The payload of the output store, at `(t, f)` of the block: the sum over the 4096 columns of the products. -/
theorem pay1_apply (d : Vec Ideal S512x4096 .bf16) (w : Vec Ideal S1024x4096 .bf16) (t : Fin 512) (f : Fin 1024) :
    (k0_pay1 d w (constant S512x1024 .f32 0x00000000#32) (ix2 t f) : EReal)
      = ∑ k : Fin 4096, (d (ix2 t k) * w (ix2 f k) : EReal) := by
  unfold k0_pay1
  show (FloatOps.matmul (F := Ideal) (φ₁ := .bf16) (φ₂ := .bf16) (DotDims.transposedRhs 512 4096 1024) none _ _ _ (ix2 t f) : EReal) = _
  rw [Ideal.matmul_transposedRhs_apply]
  rw [show (constant S512x1024 .f32 0x00000000#32 : FVec Ideal S512x1024 .f32) (ix2 t f) = (0 : EReal) from
    Ideal.ofBits_zero_f32, zero_add]

section Outs

variable (c : Dev nD) (i : grid0.Coords) (arg2 : Memref sig .tc .smem S112x32 .f32) (harg2 : arg2.IsWhole)
  (arg3 : Memref sig .tc .vmem S512x4096 .fp8e5m2) (harg3 : arg3.IsWhole) (arg4 : Memref sig .tc .vmem S512x32 .f32)
  (harg4 : arg4.IsWhole) (arg5 : Memref sig .tc .vmem S1024x4096 .fp8e4m3) (harg5 : arg5.IsWhole)
  (arg6 : Memref sig .tc .vmem S512x1024 .bf16) (harg6 : arg6.IsWhole) (arg7 : Memref sig .tc .vmem S512x4096 .bf16)
  (harg7 : arg7.IsWhole) (arg8 : Memref sig .tc .vmem S1024x4096 .bf16) (harg8 : arg8.IsWhole)
  (x0 : Vec Ideal S112x32 .f32) (x1 : Vec Ideal S512x4096 .fp8e5m2) (x2 : Vec Ideal S512x32 .f32)
  (x3 : Vec Ideal S1024x4096 .fp8e4m3) (xs0 : Vec Ideal S512x4096 .bf16)

/-- The code scratch after the first column of a row of blocks: the dequantised code block. -/
theorem soutA_eq (hc0 : cond0_0 i) :
    sout0_A_0 c i arg2 harg2 arg3 harg3 arg4 harg4 arg5 harg5 arg6 harg6 arg7 harg7 arg8 harg8 hc0 x0 x1 x2 x3
      = dqBlock x1 x2 := by
  unfold sout0_A_0
  rw [View.read_writes_junk_eq_canon, runA_scratch, canon_strips]

/-- The output block there: the contraction of the two dequantised blocks. -/
theorem outA_eq (hc0 : cond0_0 i) :
    out0_A_4 c i arg2 harg2 arg3 harg3 arg4 harg4 arg5 harg5 arg6 harg6 arg7 harg7 arg8 harg8 hc0 x0 x1 x2 x3
      = k0_pay1 (dqBlock x1 x2) (wqBlock i x0 x3) (constant S512x1024 .f32 0x00000000#32) := by
  unfold out0_A_4
  rw [View.read_writes_junk_eq_canon, runA_out, View.canon_unit_zero offs_zero, readCov_strips, readCov_tiles]

/-- The output block elsewhere: the contraction of what the code scratch holds with the dequantised weight block. -/
theorem outB_eq (hc0 : ¬cond0_0 i) :
    out0_B_4 c i arg2 harg2 arg3 harg3 arg4 harg4 arg5 harg5 arg6 harg6 arg7 harg7 arg8 harg8 hc0 x0 x1 x2 x3 xs0
      = k0_pay1 xs0 (wqBlock i x0 x3) (constant S512x1024 .f32 0x00000000#32) := by
  unfold out0_B_4
  rw [View.read_writes_junk_eq_canon, runB_out, View.canon_unit_zero offs_zero, readCov_tiles, View.readAt_eq_ld,
    harg7.read_unread, View.ld_unit_zero (S := S512x4096) offs_zero]

end Outs

end Cert.KernelIdeal.Math

end
-- ==== Proof.Array.lean ====
/- What the output array holds after the run. A point's code, code-scale and scale-table blocks and its weight block are
   parts of the arguments; the code scratch, filled at the first column of a row of blocks, keeps the dequantised codes of
   that row of blocks until the next; so each element written back is the formula of Spec.lean. -/
module

public import proofs.«01_k».proof.Proof.Gen.KernelIdeal.Value
public import proofs.«01_k».proof.Proof.Block

@[expose] public section

set_option maxRecDepth 16384

noncomputable section

namespace Cert.KernelIdeal.Math

open Cert.KernelIdeal Cert.KernelIdeal.Gen Idealize.ShloMosaic Idealize.ShloMosaic.TcCoe Idealize.SL.Sem
open Idealize.ShloMosaic.ValueIdx Cert.Math
open scoped BigOperators

variable (m : (ℓ : Loc nD τ sig) → Buf (Elt Ideal) ℓ)

/-- The codes as launched. -/
abbrev codes (c : Dev nD) : FVec Ideal S16384x4096 .fp8e5m2 := m ((c : Thread nD τ).loc main_arg0)
/-- The codes' scales as launched: one per row and 128 columns. -/
abbrev scales (c : Dev nD) : FVec Ideal S16384x32 .f32 := m ((c : Thread nD τ).loc main_arg1)
/-- The weight codes as launched. -/
abbrev wCodes (c : Dev nD) : FVec Ideal S14336x4096 .fp8e4m3 := m ((c : Thread nD τ).loc main_arg2)
/-- The weights' scales as launched: one per 128 × 128 tile. -/
abbrev wScales (c : Dev nD) : FVec Ideal S112x32 .f32 := m ((c : Thread nD τ).loc main_arg3)

/-- Where the windows stand at point `t`: the codes and their scales at row block `t / 14`, the weights at row block
    `t % 14`, the scale table always whole. -/
theorem idx_facts : ∀ t : Fin cfg0.N,
    win0_0.index t (0 : Fin 2) = 0 ∧ win0_0.index t (1 : Fin 2) = 0
    ∧ win0_1.index t (0 : Fin 2) = t.val / 14 ∧ win0_1.index t (1 : Fin 2) = 0
    ∧ win0_2.index t (0 : Fin 2) = t.val / 14 ∧ win0_2.index t (1 : Fin 2) = 0
    ∧ win0_3.index t (0 : Fin 2) = t.val % 14 ∧ win0_3.index t (1 : Fin 2) = 0
    ∧ (grid0.coords t (1 : Fin 2)).val = t.val % 14 :=
  (by decide +kernel : ∀ t : Fin grid0.N, _)

/-- The scale table's block is the whole table. -/
theorem iblk0_apply (c : Dev nD) (t : Fin cfg0.N) (a : Fin 112) (b : Fin 32) :
    iblk m c 0 t (ix2 a b) = wScales m c (ix2 a b) := by
  obtain ⟨e0, e1, -⟩ := idx_facts t
  refine congrArg (wScales m c) (funext fun ax => Fin.ext ?_)
  match ax with
  | ⟨0, _⟩ => show win0_0.index t (0 : Fin 2) * 112 + 1 * a.val = a.val; omega
  | ⟨1, _⟩ => show win0_0.index t (1 : Fin 2) * 32 + 1 * b.val = b.val; omega

/-- The code block at point `t` is the codes' row block `t / 14`. -/
theorem iblk1_apply (c : Dev nD) (t : Fin cfg0.N) (r : Fin 512) (k : Fin 4096) (R : Fin 16384)
    (hR : R.val = t.val / 14 * 512 + r.val) :
    iblk m c 1 t (ix2 r k) = codes m c (ix2 R k) := by
  obtain ⟨-, -, e0, e1, -⟩ := idx_facts t
  refine congrArg (codes m c) (funext fun ax => Fin.ext ?_)
  match ax with
  | ⟨0, _⟩ => show win0_1.index t (0 : Fin 2) * 512 + 1 * r.val = R.val; omega
  | ⟨1, _⟩ => show win0_1.index t (1 : Fin 2) * 4096 + 1 * k.val = k.val; omega

/-- The block of code scales at point `t` is the scales' row block `t / 14`. -/
theorem iblk2_apply (c : Dev nD) (t : Fin cfg0.N) (r : Fin 512) (b : Fin 32) (R : Fin 16384)
    (hR : R.val = t.val / 14 * 512 + r.val) :
    iblk m c 2 t (ix2 r b) = scales m c (ix2 R b) := by
  obtain ⟨-, -, -, -, e0, e1, -⟩ := idx_facts t
  refine congrArg (scales m c) (funext fun ax => Fin.ext ?_)
  match ax with
  | ⟨0, _⟩ => show win0_2.index t (0 : Fin 2) * 512 + 1 * r.val = R.val; omega
  | ⟨1, _⟩ => show win0_2.index t (1 : Fin 2) * 32 + 1 * b.val = b.val; omega

/-- The weight block at point `t` is the weights' row block `t % 14`. -/
theorem iblk3_apply (c : Dev nD) (t : Fin cfg0.N) (r : Fin 1024) (k : Fin 4096) (R : Fin 14336)
    (hR : R.val = t.val % 14 * 1024 + r.val) :
    iblk m c 3 t (ix2 r k) = wCodes m c (ix2 R k) := by
  obtain ⟨-, -, -, -, -, -, e0, e1, -⟩ := idx_facts t
  refine congrArg (wCodes m c) (funext fun ax => Fin.ext ?_)
  match ax with
  | ⟨0, _⟩ => show win0_3.index t (0 : Fin 2) * 1024 + 1 * r.val = R.val; omega
  | ⟨1, _⟩ => show win0_3.index t (1 : Fin 2) * 4096 + 1 * k.val = k.val; omega

/-- The codes' row block `b`, dequantised: what the code scratch is to hold. -/
def dqRow (c : Dev nD) (b : ℕ) (hb : b < 32) : Vec Ideal S512x4096 .bf16 := fun z =>
  (codes m c (ix2 (⟨b * 512 + (z 0).val, by have := idx2_lt0 z; omega⟩ : Fin 16384) (z 1))
    * scales m c (ix2 (⟨b * 512 + (z 0).val, by have := idx2_lt0 z; omega⟩ : Fin 16384) (colBlk (z 1)))
    : EReal)

/-- A point's dequantised code block is the dequantised row block `t / 14`. -/
theorem dqBlock_eq (c : Dev nD) (t : Fin cfg0.N) (b : ℕ) (hb : b < 32) (ht : t.val / 14 = b) :
    dqBlock (iblk m c 1 t) (iblk m c 2 t) = dqRow m c b hb := by
  subst ht
  funext z
  refine congrArg₂ (fun a b : EReal => a * b) ?_ ?_
  · exact (congrArg (iblk m c 1 t) (eq_ix2 z)).trans (iblk1_apply m c t (z 0) (z 1) _ rfl)
  · exact iblk2_apply m c t (z 0) (colBlk (z 1)) _ rfl

/-- At the first column of a row of blocks the code scratch is filled with the point's dequantised code block. -/
theorem carried_first (c : Dev nD) (t : Fin cfg0.N) (h0 : t.val % 14 = 0) :
    (outsAt0 m c t.val t.isLt).2 = dqBlock (iblk m c 1 t) (iblk m c 2 t) := by
  rw [outsAt0_A m c t h0]
  dsimp only
  rw [soutA_eq]

/-- At the other columns it is kept. -/
theorem carried_kept (c : Dev nD) (t : Fin cfg0.N) (h0 : ¬t.val % 14 = 0) :
    (outsAt0 m c t.val t.isLt).2 = (outsAt0 m c (t.val - 1) (lt_of_le_of_lt (Nat.sub_le _ _) t.isLt)).2 := by
  rw [outsAt0_B m c t h0]
  rfl

/-- THE CARRIED SCRATCH: after point `n` it holds the dequantised codes of row block `n / 14`. -/
theorem carried (c : Dev nD) (b : ℕ) (hb : b < 32) : ∀ (n : ℕ) (hn : n < cfg0.N), n / 14 = b →
    (outsAt0 m c n hn).2 = dqRow m c b hb := by
  intro n
  induction n using Nat.strong_induction_on with
  | _ n ih =>
    intro hn e
    by_cases h0 : n % 14 = 0
    · exact (carried_first m c ⟨n, hn⟩ h0).trans (dqBlock_eq m c ⟨n, hn⟩ b hb e)
    · exact (carried_kept m c ⟨n, hn⟩ h0).trans (ih (n - 1) (by omega) _ (by omega))

/-- THE OUTPUT BLOCK after point `t`: the contraction of the dequantised codes of row block `t / 14` with the point's
    dequantised weight block. -/
theorem out_eq (c : Dev nD) (t : Fin cfg0.N) (b : ℕ) (hb : b < 32) (e : t.val / 14 = b) :
    (outsAt0 m c t.val t.isLt).1
      = k0_pay1 (dqRow m c b hb) (wqBlock (grid0.coords t) (iblk m c 0 t) (iblk m c 3 t))
          (constant S512x1024 .f32 0x00000000#32) := by
  by_cases h0 : t.val % 14 = 0
  · rw [outsAt0_A m c t h0]
    dsimp only
    rw [outA_eq, dqBlock_eq m c t b hb e]
  · rw [outsAt0_B m c t h0]
    dsimp only
    rw [outB_eq, carried m c b hb (t.val - 1) _ (by omega)]

/-- An element of the point's dequantised weight block, in the arguments. -/
theorem wqBlock_apply (c : Dev nD) (t : Fin cfg0.N) (r : Fin 1024) (k : Fin 4096) (R : Fin 14336)
    (hR : R.val = t.val % 14 * 1024 + r.val) :
    (wqBlock (grid0.coords t) (iblk m c 0 t) (iblk m c 3 t) (ix2 r k) : EReal)
      = wCodes m c (ix2 R k)
        * wScales m c (ix2 (rowBlk R) (colBlk k)) := by
  obtain ⟨-, -, -, -, -, -, -, -, eg⟩ := idx_facts t
  refine congrArg₂ (fun a b : EReal => a * b) (iblk3_apply m c t r k R hR) ?_
  refine (iblk0_apply m c t _ _).trans ?_
  refine congrArg (fun a => wScales m c (ix2 a (colBlk k))) (Fin.ext ?_)
  show 8 * (grid0.coords t (1 : Fin 2)).val + r.val / 128 = R.val / 128
  omega

/-- THE ARRAY after the run, element by element: the formula of Spec.lean on the arguments. -/
theorem value_apply (c : Dev nD) (t : Fin 16384) (f : Fin 14336) :
    (Value.G4 m c (ix2 t f) : EReal)
      = spec (codes m c) (scales m c)
          (wCodes m c) (wScales m c) t f := by
  have ht := t.isLt
  have hf := f.isLt
  have hN : cfg0.N = 448 := N_0
  have hp : Value.pt4Of (ix2 t f) = 14 * (t.val / 512) + f.val / 1024 := by
    show 14 * (t.val / 512 - 0) + 1 * (f.val / 1024 - 0) = _
    omega
  have hlt : Value.pt4Of (ix2 t f) < cfg0.N := by omega
  have hb : t.val / 512 < 32 := by omega
  have hl : Value.loc4Of (ix2 t f)
      = ix2 (⟨t.val % 512, Nat.mod_lt _ (by decide)⟩ : Fin 512) (⟨f.val % 1024, Nat.mod_lt _ (by decide)⟩ : Fin 1024) := by
    funext a; match a with | ⟨0, _⟩ => rfl | ⟨1, _⟩ => rfl
  have hG : Value.G4 m c (ix2 t f) = (outsAt0 m c (Value.pt4Of (ix2 t f)) hlt).1 (Value.loc4Of (ix2 t f)) := by
    unfold Value.G4
    rw [dif_pos hlt, ← Value.outsAt0_sweep m c _ hlt]
  refine hG.trans ?_
  rw [out_eq m c ⟨_, hlt⟩ (t.val / 512) hb (by show Value.pt4Of (ix2 t f) / 14 = _; omega), hl]
  refine (pay1_apply _ _ _ _).trans ?_
  unfold spec
  refine Finset.sum_congr rfl fun k _ => congrArg₂ (fun a b : EReal => a * b) ?_ ?_
  · have er : (⟨t.val / 512 * 512 + t.val % 512, by omega⟩ : Fin 16384) = t := Fin.ext (by
      show t.val / 512 * 512 + t.val % 512 = t.val
      omega)
    exact congrArg (fun a : Fin 16384 => (codes m c (ix2 a k) * scales m c (ix2 a (colBlk k)) : EReal)) er
  · exact wqBlock_apply m c ⟨_, hlt⟩ _ k f (by
      show f.val = Value.pt4Of (ix2 t f) % 14 * 1024 + f.val % 1024
      omega)

end Cert.KernelIdeal.Math

end
-- ==== Proof.Reference.lean ====
/- What the reference computes: its one payload, read at an index, is the formula of Spec.lean. -/
module

public import proofs.«01_k».proof.Proof.Gen.ReferenceIdeal.Value
public import proofs.«01_k».proof.Proof.Spec

@[expose] public section

set_option maxRecDepth 16384

noncomputable section

namespace Cert.ReferenceIdeal.Math

open Cert.ReferenceIdeal Cert.ReferenceIdeal.Gen Idealize.ShloMosaic Idealize.ShloMosaic.ValueIdx Cert.Math

/-- The dequantised activations: cut into rows of 32 blocks of 128, each block times its scale, laid flat again. At
    `(t, k)` this is the code times the scale of `k`'s block. -/
theorem dq_apply (x : FVec Ideal S16384x4096 .bf16) (s : FVec Ideal S16384x32 .bf16) (t : Fin 16384) (k : Fin 4096) :
    shapeCast S16384x4096
      (mulf (shapeCast S16384x32x128 x shapeCasts_S16384x4096_S16384x32x128)
        (broadcastTo S16384x32x128 (shapeCast S16384x32x1 s shapeCasts_S16384x32_S16384x32x1)
          broadcasts_S16384x32x1_S16384x32x128))
      shapeCasts_S16384x32x128_S16384x4096 (ix2 t k)
      = (x (ix2 t k) : EReal) * s (ix2 t (colBlk k)) := by
  have hk := k.isLt
  rw [shapeCast_apply _ _ (ix2 t k) (ix3 t (colBlk k) (⟨k.val % 128, by omega⟩ : Fin 128))
    (by rw [Shape.rowMajor_val_two, Shape.rowMajor_val_three]
        show (t.val * 32 + k.val / 128) * 128 + k.val % 128 = t.val * 4096 + k.val
        omega)]
  show (_ : EReal) * _ = _
  rw [shapeCast_apply _ _ _ (ix2 t k)
      (by rw [Shape.rowMajor_val_two, Shape.rowMajor_val_three]
          show t.val * 4096 + k.val = (t.val * 32 + k.val / 128) * 128 + k.val % 128
          omega),
    broadcastTo_apply _ _ _ (ix3 t (colBlk k) (0 : Fin 1)) (fun a => by fin_cases a <;> rfl),
    shapeCast_apply _ _ _ (ix2 t (colBlk k))
      (by rw [Shape.rowMajor_val_two, Shape.rowMajor_val_three]
          show t.val * 32 + k.val / 128 = (t.val * 32 + k.val / 128) * 1 + 0
          omega)]

/-- The dequantised weights: cut into 112 × 32 tiles of 128 × 128, each tile times its scale, laid flat again. At
    `(f, k)` this is the weight code times the scale of its tile. -/
theorem wq_apply (x : FVec Ideal S14336x4096 .bf16) (s : FVec Ideal S112x32 .bf16) (f : Fin 14336) (k : Fin 4096) :
    shapeCast S14336x4096
      (mulf (shapeCast S112x128x32x128 x shapeCasts_S14336x4096_S112x128x32x128)
        (broadcastTo S112x128x32x128 (shapeCast S112x1x32x1 s shapeCasts_S112x32_S112x1x32x1)
          broadcasts_S112x1x32x1_S112x128x32x128))
      shapeCasts_S112x128x32x128_S14336x4096 (ix2 f k)
      = (x (ix2 f k) : EReal) * s (ix2 (rowBlk f) (colBlk k)) := by
  have hk := k.isLt
  have hf := f.isLt
  rw [shapeCast_apply _ _ (ix2 f k)
    (ix4 (rowBlk f) (⟨f.val % 128, by omega⟩ : Fin 128) (colBlk k) (⟨k.val % 128, by omega⟩ : Fin 128))
    (by rw [Shape.rowMajor_val_two, Shape.rowMajor_val_four]
        show ((f.val / 128 * 128 + f.val % 128) * 32 + k.val / 128) * 128 + k.val % 128 = f.val * 4096 + k.val
        omega)]
  show (_ : EReal) * _ = _
  rw [shapeCast_apply _ _ _ (ix2 f k)
      (by rw [Shape.rowMajor_val_two, Shape.rowMajor_val_four]
          show f.val * 4096 + k.val = ((f.val / 128 * 128 + f.val % 128) * 32 + k.val / 128) * 128 + k.val % 128
          omega),
    broadcastTo_apply _ _ _ (ix4 (rowBlk f) (0 : Fin 1) (colBlk k) (0 : Fin 1)) (fun a => by fin_cases a <;> rfl),
    shapeCast_apply _ _ _ (ix2 (rowBlk f) (colBlk k))
      (by rw [Shape.rowMajor_val_two, Shape.rowMajor_val_four]
          show f.val / 128 * 32 + k.val / 128 = ((f.val / 128 * 1 + 0) * 32 + k.val / 128) * 1 + 0
          omega)]

/-- THE REFERENCE'S RESULT, element by element: the formula of Spec.lean. -/
theorem value_apply (a0 : Vec Ideal S16384x4096 .fp8e5m2) (a1 : Vec Ideal S16384x32 .f32)
    (a2 : Vec Ideal S14336x4096 .fp8e4m3) (a3 : Vec Ideal S112x32 .f32) (t : Fin 16384) (f : Fin 14336) :
    (Value.G4 (F := Ideal) a0 a1 a2 a3 (ix2 t f) : EReal) = spec a0 a1 a2 a3 t f := by
  unfold Value.G4 k0_pay1
  show (FloatOps.matmul (F := Ideal) (DotDims.transposedRhs 16384 4096 14336) none _ _ _ (ix2 t f) : EReal) = _
  rw [Ideal.matmul_transposedRhs_apply]
  rw [show (constant S16384x14336 .f32 0x00000000#32 : FVec Ideal S16384x14336 .f32) (ix2 t f) = (0 : EReal) from
    Ideal.ofBits_zero_f32, zero_add]
  unfold spec
  refine Finset.sum_congr rfl fun k _ => ?_
  rw [dq_apply, wq_apply]
  rfl

end Cert.ReferenceIdeal.Math

end
-- ==== Proof.Equation.lean ====
/- The equation: on the same arguments the kernel's array and the reference's are the same, since each is the formula of
   Spec.lean at every index. -/
module

public import proofs.«01_k».proof.Proof.Array
public import proofs.«01_k».proof.Proof.Reference

@[expose] public section

noncomputable section

namespace Cert.Math

open Idealize.ShloMosaic Idealize.ShloMosaic.TcCoe Idealize.SL.Sem Idealize.ShloMosaic.ValueIdx

/-- THE TWO ARRAYS AGREE: what the kernel's array holds after the run is the reference's result on the kernel's
    arguments. -/
theorem kernel_eq_reference
    (m : (ℓ : Loc KernelIdeal.nD KernelIdeal.τ KernelIdeal.sig) → Buf (Elt Ideal) ℓ) (c : Dev KernelIdeal.nD) :
    KernelIdeal.Value.G4 m c
      = ReferenceIdeal.Value.G4 (F := Ideal) (KernelIdeal.Math.codes m c) (KernelIdeal.Math.scales m c)
          (KernelIdeal.Math.wCodes m c) (KernelIdeal.Math.wScales m c) := by
  funext i
  obtain ⟨t, f, rfl⟩ : ∃ (t : Fin 16384) (f : Fin 14336), i = ix2 t f := ⟨i 0, i 1, eq_ix2 i⟩
  exact (KernelIdeal.Math.value_apply m c t f).trans (ReferenceIdeal.Math.value_apply _ _ _ _ t f).symm

end Cert.Math

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal.Value
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Equation
public import Idealize.ShloMosaic.Adequacy
public import Idealize.ShloMosaic.Init

@[expose] public section

noncomputable section

namespace Cert.Proof

open Idealize.ShloMosaic Idealize.SL.Sem Cert.Kernel

/-- From memories that agree on the four arguments, the idealized kernel and the idealized reference both run, leave
    their arguments as they were, and end with the same result array. -/
theorem algebraic : algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Value.G4 m c, Cert.KernelIdeal.Value.run m g, ?_⟩
  refine (θ_run _ _ _).mono (fun r h c => ?_) (Cert.ReferenceIdeal.Value.run m' g')
  obtain ⟨h0, h1, h2, h3⟩ := hagree c
  refine ⟨(h c).1.trans ?_, (h c).2⟩
  rw [h0, h1, h2, h3]
  exact (Cert.Math.kernel_eq_reference m c).symm

/-- Every claim of the certificate. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g,
    fun m g _ => Cert.ReferenceIdeal.Gen.frame m g, trivial, algebraic⟩

end Cert.Proof

end
